-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_arg2) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x24x24 : Shape := ⟨4, ![32, 768, 24, 24]⟩
abbrev S32x768 : Shape := ⟨2, ![32, 768]⟩
abbrev S32 : Shape := ⟨1, ![32]⟩
abbrev S_ : Shape := ⟨0, ![]⟩
abbrev S32x768x576 : Shape := ⟨3, ![32, 768, 576]⟩
abbrev S32x1x768 : Shape := ⟨3, ![32, 1, 768]⟩
abbrev S32x1x1 : Shape := ⟨3, ![32, 1, 1]⟩
abbrev S1x1x768 : Shape := ⟨3, ![1, 1, 768]⟩
abbrev S1x1x1 : Shape := ⟨3, ![1, 1, 1]⟩
abbrev S1x768x576 : Shape := ⟨3, ![1, 768, 576]⟩
abbrev S1x768 : Shape := ⟨2, ![1, 768]⟩
abbrev S768x1 : Shape := ⟨2, ![768, 1]⟩
abbrev S768x768 : Shape := ⟨2, ![768, 768]⟩
abbrev S768 : Shape := ⟨1, ![768]⟩
abbrev S768x576 : Shape := ⟨2, ![768, 576]⟩
abbrev S32x768x1x1 : Shape := ⟨4, ![32, 768, 1, 1]⟩

abbrev nBuf : Space → Nat
  | .hbm => 24
  | .vmem => 10
  | .smem => 0
  | _ => 0

abbrev bufTy : (tb : Table) → Fin (tcTables nBuf tb) → BufTy
  | .hbm, ⟨0, _⟩ => ⟨S32x768x24x24, .f32⟩
  | .hbm, ⟨1, _⟩ => ⟨S32x768, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32x768x576, .f32⟩
  | .hbm, ⟨17, _⟩ => ⟨S32x1x768, .f32⟩
  | .hbm, ⟨18, _⟩ => ⟨S32x1x1, .f32⟩
  | .hbm, ⟨19, _⟩ => ⟨S32x768x576, .f32⟩
  | .hbm, ⟨20, _⟩ => ⟨S32x1x768, .f32⟩
  | .hbm, ⟨21, _⟩ => ⟨S32x768x24x24, .f32⟩
  | .hbm, ⟨22, _⟩ => ⟨S32x768, .f32⟩
  | .hbm, ⟨23, _⟩ => ⟨S32x768x1x1, .f32⟩
  | .local _ .vmem, ⟨0, _⟩ => ⟨S1x1x768, .f32⟩
  | .local _ .vmem, ⟨1, _⟩ => ⟨S1x1x768, .f32⟩
  | .local _ .vmem, ⟨2, _⟩ => ⟨S1x1x1, .f32⟩
  | .local _ .vmem, ⟨3, _⟩ => ⟨S1x1x1, .f32⟩
  | .local _ .vmem, ⟨4, _⟩ => ⟨S1x768x576, .f32⟩
  | .local _ .vmem, ⟨5, _⟩ => ⟨S1x768x576, .f32⟩
  | .local _ .vmem, ⟨6, _⟩ => ⟨S1x768x576, .f32⟩
  | .local _ .vmem, ⟨7, _⟩ => ⟨S1x768x576, .f32⟩
  | .local _ .vmem, ⟨8, _⟩ => ⟨S1x1x768, .f32⟩
  | .local _ .vmem, ⟨9, _⟩ => ⟨S1x1x768, .f32⟩
  | _, _ => ⟨S32x768x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x768x24x24 : Shape := ⟨4, ![32, 768, 24, 24]⟩
abbrev S32x768 : Shape := ⟨2, ![32, 768]⟩
abbrev S32 : Shape := ⟨1, ![32]⟩
abbrev S_ : Shape := ⟨0, ![]⟩
abbrev S32x1 : Shape := ⟨2, ![32, 1]⟩
abbrev S32x768x1x1 : Shape := ⟨4, ![32, 768, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x768x24x24, .f32⟩
  | .hbm, ⟨1, _⟩ => ⟨S32x768, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32x768, .f32⟩
  | .hbm, ⟨17, _⟩ => ⟨S32x768, .i32⟩
  | .hbm, ⟨18, _⟩ => ⟨S32x768, .f32⟩
  | .hbm, ⟨19, _⟩ => ⟨S32x768, .i32⟩
  | .hbm, ⟨20, _⟩ => ⟨S32x768, .i32⟩
  | .hbm, ⟨21, _⟩ => ⟨S32x768, .i32⟩
  | .hbm, ⟨22, _⟩ => ⟨S32x768, .i32⟩
  | .hbm, ⟨23, _⟩ => ⟨S32x1, .i32⟩
  | .hbm, ⟨24, _⟩ => ⟨S32x768, .i32⟩
  | .hbm, ⟨25, _⟩ => ⟨S32x768, .i1⟩
  | .hbm, ⟨26, _⟩ => ⟨S32x768, .f32⟩
  | .hbm, ⟨27, _⟩ => ⟨S32x768x1x1, .f32⟩
  | .hbm, ⟨28, _⟩ => ⟨S32x768x24x24, .f32⟩
  | .hbm, ⟨29, _⟩ => ⟨S32x768x24x24, .f32⟩
  | _, _ => ⟨S32x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_v5 : Ref sig .tc := ⟨.hbm, 16, rfl⟩
abbrev main_call2_v0 : Ref sig .tc := ⟨.hbm, 17, rfl⟩
abbrev main_call2_v1_0 : Ref sig .tc := ⟨.hbm, 18, rfl⟩
abbrev main_v6 : Ref sig .tc := ⟨.hbm, 19, rfl⟩
abbrev main_call3_v0 : Ref sig .tc := ⟨.hbm, 20, rfl⟩
abbrev main_call3_v1_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Proof.Ranks.lean ====
/-
  Ranks by sorting twice, against ranks by counting.

  A stable sort of `n` keys lists the positions in the order "smaller key first, among equal keys the earlier position
  first". That order is a strict total order, so the place at which a position is listed is the number of positions that
  precede it. Sorting the list of positions a second time inverts the listing, which is why the second sort's permutation
  holds each position's rank. Nothing here speaks of a program.
-/
module

public import Idealize.ShloMosaic.Lib.SortFacts
public import Mathlib.Order.Fin.Basic
public import Mathlib.Data.Fintype.Card
public import Mathlib.Order.Interval.Finset.Fin

@[expose] public section

namespace Cert.Ranks

open Idealize.ShloMosaic

variable {n : Nat} {α : Type} [LinearOrder α]

/-- Position `a` precedes position `b`: its key is smaller, or the keys are equal and `a` is the earlier position. -/
def Precedes (f : Fin n → α) (a b : Fin n) : Prop := f a < f b ∨ (f a = f b ∧ a < b)

/-- Whether one position precedes another can be decided. -/
instance (f : Fin n → α) : DecidableRel (Precedes f) := fun a b => by
  unfold Precedes; infer_instance

/-- A position that precedes one which precedes a third precedes the third. -/
theorem Precedes.trans {f : Fin n → α} {a b c : Fin n} (hab : Precedes f a b) (hbc : Precedes f b c) :
    Precedes f a c := by
  unfold Precedes at *
  rcases hab with h | ⟨h, h'⟩ <;> rcases hbc with k | ⟨k, k'⟩
  · exact .inl (h.trans k)
  · exact .inl (k ▸ h)
  · exact .inl (h ▸ k)
  · exact .inr ⟨h.trans k, h'.trans k'⟩

/-- No position precedes itself. -/
theorem Precedes.irrefl {f : Fin n → α} (a : Fin n) : ¬ Precedes f a a := by
  rintro (h | ⟨-, h⟩)
  · exact lt_irrefl _ h
  · exact lt_irrefl _ h

/-- One step of the stable insertion sort keeps the list in order, if the new position is earlier than all listed. -/
theorem insert_inOrder (f : Fin n → α) (R : Fin n → Fin n → Bool) (hR : ∀ a b, R a b = true ↔ f a < f b) (a : Fin n)
    (l : List (Fin n)) (ha : ∀ b ∈ l, a < b) (hl : l.Pairwise (Precedes f)) :
    (insertBefore R a l).Pairwise (Precedes f) := by
  induction l with
  | nil => exact List.pairwise_singleton _ _
  | cons b l ih =>
    rw [List.pairwise_cons] at hl
    unfold insertBefore
    split
    · next h =>
      refine List.pairwise_cons.mpr ⟨fun c hc => ?_, ih (fun c hc => ha c (List.mem_cons_of_mem _ hc)) hl.2⟩
      rcases List.mem_cons.mp ((perm_insertBefore R a l).mem_iff.mp hc) with rfl | hc'
      · exact .inl ((hR _ _).mp h)
      · exact hl.1 c hc'
    · next h =>
      have hab : Precedes f a b := by
        have hle : f a ≤ f b := not_lt.mp fun hlt => h ((hR _ _).mpr hlt)
        rcases hle.lt_or_eq with hlt | heq
        · exact .inl hlt
        · exact .inr ⟨heq, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an increasing list of positions is in order. -/
theorem sort_inOrder (f : Fin n → α) (R : Fin n → Fin n → Bool) (hR : ∀ a b, R a b = true ↔ f a < f b)
    (l : List (Fin n)) (hl : l.Pairwise (· < ·)) : (stableSort R l).Pairwise (Precedes f) := by
  induction l with
  | nil => exact List.Pairwise.nil
  | cons a l ih =>
    rw [List.pairwise_cons] at hl
    unfold stableSort
    exact insert_inOrder f R hR a _ (fun b hb => hl.1 b ((perm_stableSort R l).mem_iff.mp hb)) (ih hl.2)

/-- The sorting permutation lists the positions in order. -/
theorem sortedFrom_precedes (f : Fin n → α) (R : Fin n → Fin n → Bool) (hR : ∀ a b, R a b = true ↔ f a < f b)
    {i j : Fin n} (hij : i < j) : Precedes f (sortedFrom R i) (sortedFrom R j) := by
  have hp := List.pairwise_iff_get.mp (sort_inOrder f R hR (List.finRange n) (List.pairwise_lt_finRange n))
  exact hp _ _ hij

/-- Place `i` is before place `j` exactly if the position listed at `i` precedes the one listed at `j`. -/
theorem precedes_iff (f : Fin n → α) (R : Fin n → Fin n → Bool) (hR : ∀ a b, R a b = true ↔ f a < f b)
    (i j : Fin n) : Precedes f (sortedFrom R i) (sortedFrom R j) ↔ i < j := by
  refine ⟨fun h => ?_, sortedFrom_precedes f R hR⟩
  rcases lt_trichotomy i j with hij | rfl | hij
  · exact hij
  · exact absurd h (Precedes.irrefl _)
  · exact absurd (h.trans (sortedFrom_precedes f R hR hij)) (Precedes.irrefl _)

/-- Sorting the listed positions a second time inverts the listing: the position listed at the place `sortedFrom S c`
    is `c`. -/
theorem sortedFrom_inverse (p : Fin n → Fin n) (hp : Function.Bijective p) (S : Fin n → Fin n → Bool)
    (hS : ∀ a b, S a b = true ↔ p a < p b) (c : Fin n) : p (sortedFrom S c) = c := by
  have hmono : StrictMono fun c => p (sortedFrom S c) := by
    intro i j hij
    rcases sortedFrom_precedes p S hS hij with h | ⟨h, h'⟩
    · exact h
    · exact absurd (hp.1 h) h'.ne
  have hsurj : Function.Surjective fun c => p (sortedFrom S c) := hp.2.comp (sortedFrom_surjective S)
  have e : (hmono.orderIsoOfSurjective _ hsurj) = OrderIso.refl (Fin n) := Subsingleton.elim _ _
  exact congrFun (congrArg (fun g : Fin n ≃o Fin n => (g : Fin n → Fin n)) e) c

/-- THE RANK: the second sort's entry at `c` is the number of positions that precede `c`. -/
theorem rank_eq_card (f : Fin n → α) (R : Fin n → Fin n → Bool) (hR : ∀ a b, R a b = true ↔ f a < f b)
    (S : Fin n → Fin n → Bool) (hS : ∀ a b, S a b = true ↔ sortedFrom R a < sortedFrom R b) (c : Fin n) :
    (sortedFrom S c).val = (Finset.univ.filter fun j => Precedes f j c).card := by
  have hb : Function.Bijective (sortedFrom R) := ⟨sortedFrom_injective R, sortedFrom_surjective R⟩
  have hc : sortedFrom R (sortedFrom S c) = c := sortedFrom_inverse _ hb S hS c
  have e : (Finset.univ.filter fun j => Precedes f j c)
      = (Finset.Iio (sortedFrom S c)).map ⟨sortedFrom R, hb.1⟩ := by
    ext j
    obtain ⟨i, rfl⟩ := hb.2 j
    simp only [Finset.mem_filter, Finset.mem_univ, true_and, Finset.mem_map, Finset.mem_Iio,
      Function.Embedding.coeFn_mk, hb.1.eq_iff, exists_eq_right]
    rw [← precedes_iff f R hR i (sortedFrom S c), hc]
  rw [e, Finset.card_map, Fin.card_Iio]

end Cert.Ranks
-- ==== Proof.Mask.lean ====
/-
  The mask entry both programs compute, as a function of one row of scores and one rate.

  A channel's rank is the number of channels that come before it when the row is sorted from the largest score to the
  smallest, equal scores in the order of their positions. The entry is one if the rank is below the clipped number of
  active channels, and zero otherwise.
-/
module

public import Idealize.ShloMosaic.Lib.Pointwise
public import proofs.«01_k».proof.Proof.Ranks

@[expose] public section

noncomputable section

namespace Cert.Mask

open Idealize.ShloMosaic Cert.Ranks

/-- The rank of channel `c` in the row of scores `s`: how many channels precede it when the negated scores are sorted. -/
def rank (s : Fin 768 → EReal) (c : Fin 768) : Nat := (Finset.univ.filter fun j => Precedes (fun i => -s i) j c).card

/-- A channel precedes another exactly if its score is larger, or the scores are equal and its position is earlier. -/
theorem precedes_neg (s : Fin 768 → EReal) (j c : Fin 768) :
    Precedes (fun i => -s i) j c ↔ s c < s j ∨ (s j = s c ∧ j < c) := by
  unfold Precedes
  rw [EReal.neg_lt_neg_iff, neg_inj]

/-- A rank is below the number of channels: no channel precedes itself. -/
theorem rank_lt (s : Fin 768 → EReal) (c : Fin 768) : rank s c < 768 := by
  have h : (Finset.univ.filter fun j => Precedes (fun i => -s i) j c) ⊂ Finset.univ :=
    Finset.ssubset_univ_iff.mpr fun e => by
      have := Finset.mem_univ c
      rw [← e, Finset.mem_filter] at this
      exact Precedes.irrefl _ this.2
  have := Finset.card_lt_card h
  rwa [Finset.card_univ, Fintype.card_fin] at this

/-- The number of active channels at rate `r`, as the float the kernel compares with: the product with 768 rounded to
    nearest even and clipped to `[1, 768]`. -/
def active (r : EReal) : EReal :=
  min (Ideal.ofBits .f32 0x44400000#32) (max (Ideal.ofBits .f32 0x3F800000#32)
    (Ideal.liftRound Ideal.roundHalfEven (r * Ideal.ofBits .f32 0x44400000#32)))

open Classical in
/-- The mask entry of channel `c`: one if its rank is below the number of active channels, zero otherwise. -/
def entry (s : Fin 768 → EReal) (r : EReal) (c : Fin 768) : EReal :=
  if ((rank s c : ℝ) : EReal) < active r then 1 else 0

end Cert.Mask
-- ==== Proof.Payload.lean ====
/-
  What one block of the kernel computes.

  A grid point holds one sample: a row of 768 scores, one rate and a 768 × 576 image. From the scores and the rate the
  body computes the row of mask entries, by comparing every pair of channels and adding the outcomes up; it stores the
  row, and the image with channel `c`'s line multiplied by entry `c`.
-/
module

public import Idealize.ShloMosaic.Lib.Pointwise
public import Idealize.ShloMosaic.Lib.WordCmp
public import proofs.«01_k».proof.Proof.Gen.KernelIdeal.Skeleton
public import proofs.«01_k».proof.Proof.Mask

@[expose] public section

set_option maxRecDepth 16384

noncomputable section

namespace Cert.KernelValue

open Idealize.ShloMosaic Idealize.ShloMosaic.TcCoe Idealize.SL.Sem
open Cert.KernelIdeal Cert.KernelIdeal.Gen

/-- A truth value, widened to a word and converted, is one or zero. -/
theorem sitofp_ofBool (b : Bool) :
    (FloatOps.sitofp .f32 (BitVec.setWidth 32 (BitVec.ofBool b)) : Ideal .f32) = if b then (1 : EReal) else 0 := by
  cases b <;> simp [FloatOps.sitofp]

/-- The bit the kernel computes for a pair of channels says whether the first precedes the second. -/
theorem pair_bit (s : Fin 768 → EReal) (j c : Fin 768) :
    IntOp.ori (BitVec.ofBool (decide (s c < s j)))
        (IntOp.andi (BitVec.ofBool (decide (s j = s c)))
          (IntOp.cmpi CmpIPredicate.slt (BitVec.ofNat 32 ↑j) (BitVec.ofNat 32 ↑c)))
      = BitVec.ofBool (decide (Ranks.Precedes (fun i => -s i) j c)) := by
  have h : IntOp.cmpi CmpIPredicate.slt (BitVec.ofNat 32 ↑j) (BitVec.ofNat 32 ↑c)
      = BitVec.ofBool (decide (j < c)) := by
    simp (disch := word_cmp_side) only [hlo_ix]
    rfl
  rw [h]
  simp only [Mask.precedes_neg]
  rw [Bool.decide_or, Bool.decide_and]
  cases decide (s c < s j) <;> cases decide (s j = s c) <;> cases decide (j < c) <;> rfl

/-- The sum of a channel's bits is its rank. -/
theorem sum_bits (s : Fin 768 → EReal) (c : Fin 768) :
    ∑ j : Fin 768, (if decide (Ranks.Precedes (fun i => -s i) j c) = true then (1 : EReal) else 0)
      = ((Mask.rank s c : ℝ) : EReal) := by
  simp only [decide_eq_true_eq]
  rw [Finset.sum_boole]
  rfl

/-- THE MASK ROW: entry `c` of the row that the body computes from the scores `v0` and the rate `v3`. -/
theorem pay1_at (v0 : FVec Ideal S1x1x768 .f32) (v3 : FVec Ideal S1x1x1 .f32) (c : Fin 768) :
    k0_pay1 (F := Ideal) v0 v3 (ix2 0 c) = Mask.entry (fun j => v0 (ix3 0 0 j)) (v3 (ix3 0 0 0)) c := by
  pointwise [k0_pay1]
  simp only [pair_bit (fun j => v0 (ix3 0 0 j)), sitofp_ofBool, sum_bits]
  rw [← Ideal.ofBits_one_f32]
  unfold Mask.entry Mask.active
  simp only [decide_eq_true_eq, Ideal.ofBits_one_f32]
  rfl

/-- The stored mask row is that row. -/
theorem pay2_at (v0 : FVec Ideal S1x1x768 .f32) (v3 : FVec Ideal S1x1x1 .f32) (c : Fin 768) :
    k0_pay2 (F := Ideal) v0 v3 (ix3 0 0 c) = Mask.entry (fun j => v0 (ix3 0 0 j)) (v3 (ix3 0 0 0)) c := by
  rw [← pay1_at]
  pointwise [k0_pay2]

/-- The stored image is the loaded one, each channel's line times the channel's mask entry. -/
theorem pay3_at (v0 : FVec Ideal S1x1x768 .f32) (v3 : FVec Ideal S1x1x1 .f32) (v31 : FVec Ideal S1x768x576 .f32)
    (c : Fin 768) (p : Fin 576) :
    k0_pay3 (F := Ideal) v0 v3 v31 (ix3 0 c p)
      = v31 (ix3 0 c p) * Mask.entry (fun j => v0 (ix3 0 0 j)) (v3 (ix3 0 0 0)) c := by
  rw [← pay1_at]
  pointwise [k0_pay3]

end Cert.KernelValue
-- ==== Proof.Arrays.lean ====
/-
  What the kernel's two result arrays hold when its grid has run.

  Grid point `t` reads sample `t`'s scores, rate and image and writes sample `t`'s part of the two result arrays. The
  parts fill the arrays, so each array ends as one function of the arrays the grid found: the mask array holds the mask
  entries, and the image array holds the images, each channel's line times the channel's entry.
-/
module

public import Idealize.ShloMosaic.Lib.Pipeline.Value
public import proofs.«01_k».proof.Proof.Gen.KernelIdeal.Frame
public import proofs.«01_k».proof.Proof.Payload

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The images as the grid finds them. -/
abbrev images (c : Dev nD) : FVec Ideal S32x768x576 .f32 := V m c main_v5
/-- The scores as the grid finds them. -/
abbrev scores (c : Dev nD) : FVec Ideal S32x1x768 .f32 := V m c main_v6
/-- The rates as the grid finds them. -/
abbrev rates (c : Dev nD) : FVec Ideal S32x1x1 .f32 := V m c main_v7

/-- The mask entry of sample `b` and channel `k`, from the scores and the rates the grid finds. -/
def entryAt (c : Dev nD) (b : Fin 32) (k : Fin 768) : EReal :=
  Mask.entry (fun j => scores m c (ix3 b 0 j)) (rates m c (ix3 b 0 0)) k

/-- What the image array is shown to hold. -/
def imageOut (c : Dev nD) : FVec Ideal S32x768x576 .f32 := fun i => images m c i * entryAt m c (i 0) (i 1)

/-- What the mask array is shown to hold. -/
def maskOut (c : Dev nD) : FVec Ideal S32x1x768 .f32 := fun i => entryAt m c (i 0) (i 2)

/-- A block's own corner, written out and as a function. -/
theorem hz : (![0, 0, 0] : Fin 3 → Nat) = fun _ => 0 := funext fun a => by fin_cases a <;> rfl

/-- The sample of a grid point. -/
def sample (t : Fin cfg0.N) : Fin 32 := ⟨t.val, by have := t.isLt; have : cfg0.N = 32 := N_0; omega⟩

/-- Point `t`'s block of the scores is number `t` along the samples and number zero along the other axes. -/
theorem index0 : ∀ t : Fin cfg0.N, win0_0.index t 0 = t.val ∧ win0_0.index t 1 = 0 ∧ win0_0.index t 2 = 0 := by
  decide +kernel
/-- Point `t`'s block of the rates is number `t` along the samples and number zero along the other axes. -/
theorem index1 : ∀ t : Fin cfg0.N, win0_1.index t 0 = t.val ∧ win0_1.index t 1 = 0 ∧ win0_1.index t 2 = 0 := by
  decide +kernel
/-- Point `t`'s block of the images is number `t` along the samples and number zero along the other axes. -/
theorem index2 : ∀ t : Fin cfg0.N, win0_2.index t 0 = t.val ∧ win0_2.index t 1 = 0 ∧ win0_2.index t 2 = 0 := by
  decide +kernel
/-- Point `t`'s block of the resulting images is number `t` along the samples and number zero along the other axes. -/
theorem index3 : ∀ t : Fin cfg0.N, win0_3.index t 0 = t.val ∧ win0_3.index t 1 = 0 ∧ win0_3.index t 2 = 0 := by
  decide +kernel
/-- Point `t`'s block of the mask is number `t` along the samples and number zero along the other axes. -/
theorem index4 : ∀ t : Fin cfg0.N, win0_4.index t 0 = t.val ∧ win0_4.index t 1 = 0 ∧ win0_4.index t 2 = 0 := by
  decide +kernel

/-- The array index of an element of point `t`'s block of scores. -/
theorem emb0 (t : Fin cfg0.N) (j : Fin 768) :
    (win0_0.rect t).emb (ix3 0 0 j : S1x1x768.Idx) = (ix3 (sample t) 0 j : S32x1x768.Idx) := by
  obtain ⟨h0, h1, h2⟩ := index0 t
  funext a
  refine Fin.ext ?_
  rw [Pipeline.Window.rect_emb_val win0_0 t _ a]
  match a with
  | ⟨0, _⟩ => show win0_0.index t 0 * 1 + 0 = t.val; rw [h0]; omega
  | ⟨1, _⟩ => show win0_0.index t 1 * 1 + 0 = 0; rw [h1]
  | ⟨2, _⟩ => show win0_0.index t 2 * 768 + j.val = j.val; rw [h2]; omega

/-- The array index of the element of point `t`'s block of rates. -/
theorem emb1 (t : Fin cfg0.N) :
    (win0_1.rect t).emb (ix3 0 0 0 : S1x1x1.Idx) = (ix3 (sample t) 0 0 : S32x1x1.Idx) := by
  obtain ⟨h0, h1, h2⟩ := index1 t
  funext a
  refine Fin.ext ?_
  rw [Pipeline.Window.rect_emb_val win0_1 t _ a]
  match a with
  | ⟨0, _⟩ => show win0_1.index t 0 * 1 + 0 = t.val; rw [h0]; omega
  | ⟨1, _⟩ => show win0_1.index t 1 * 1 + 0 = 0; rw [h1]
  | ⟨2, _⟩ => show win0_1.index t 2 * 1 + 0 = 0; rw [h2]

/-- The array index of an element of point `t`'s block of images. -/
theorem emb2 (t : Fin cfg0.N) (k : Fin 768) (p : Fin 576) :
    (win0_2.rect t).emb (ix3 0 k p : S1x768x576.Idx) = (ix3 (sample t) k p : S32x768x576.Idx) := by
  obtain ⟨h0, h1, h2⟩ := index2 t
  funext a
  refine Fin.ext ?_
  rw [Pipeline.Window.rect_emb_val win0_2 t _ a]
  match a with
  | ⟨0, _⟩ => show win0_2.index t 0 * 1 + 0 = t.val; rw [h0]; omega
  | ⟨1, _⟩ => show win0_2.index t 1 * 768 + k.val = k.val; rw [h1]; omega
  | ⟨2, _⟩ => show win0_2.index t 2 * 576 + p.val = p.val; rw [h2]; omega

/-- The array index of an element of point `t`'s block of the resulting images. -/
theorem emb3 (t : Fin cfg0.N) (k : Fin 768) (p : Fin 576) :
    (win0_3.rect t).emb (ix3 0 k p : S1x768x576.Idx) = (ix3 (sample t) k p : S32x768x576.Idx) := by
  obtain ⟨h0, h1, h2⟩ := index3 t
  funext a
  refine Fin.ext ?_
  rw [Pipeline.Window.rect_emb_val win0_3 t _ a]
  match a with
  | ⟨0, _⟩ => show win0_3.index t 0 * 1 + 0 = t.val; rw [h0]; omega
  | ⟨1, _⟩ => show win0_3.index t 1 * 768 + k.val = k.val; rw [h1]; omega
  | ⟨2, _⟩ => show win0_3.index t 2 * 576 + p.val = p.val; rw [h2]; omega

/-- The array index of an element of point `t`'s block of the mask. -/
theorem emb4 (t : Fin cfg0.N) (k : Fin 768) :
    (win0_4.rect t).emb (ix3 0 0 k : S1x1x768.Idx) = (ix3 (sample t) 0 k : S32x1x768.Idx) := by
  obtain ⟨h0, h1, h2⟩ := index4 t
  funext a
  refine Fin.ext ?_
  rw [Pipeline.Window.rect_emb_val win0_4 t _ a]
  match a with
  | ⟨0, _⟩ => show win0_4.index t 0 * 1 + 0 = t.val; rw [h0]; omega
  | ⟨1, _⟩ => show win0_4.index t 1 * 1 + 0 = 0; rw [h1]
  | ⟨2, _⟩ => show win0_4.index t 2 * 768 + k.val = k.val; rw [h2]; omega

/-- The scores of point `t`'s block are sample `t`'s. -/
theorem block0 (c : Dev nD) (t : Fin cfg0.N) (j : Fin 768) :
    iblk m c 0 t (ix3 0 0 j : S1x1x768.Idx) = scores m c (ix3 (sample t) 0 j) :=
  congrArg (scores m c) (emb0 t j)
/-- The rate of point `t`'s block is sample `t`'s. -/
theorem block1 (c : Dev nD) (t : Fin cfg0.N) :
    iblk m c 1 t (ix3 0 0 0 : S1x1x1.Idx) = rates m c (ix3 (sample t) 0 0) :=
  congrArg (rates m c) (emb1 t)
/-- The image of point `t`'s block is sample `t`'s. -/
theorem block2 (c : Dev nD) (t : Fin cfg0.N) (k : Fin 768) (p : Fin 576) :
    iblk m c 2 t (ix3 0 k p : S1x768x576.Idx) = images m c (ix3 (sample t) k p) :=
  congrArg (images m c) (emb2 t k p)

/-- The mask entries of point `t`'s blocks are sample `t`'s. -/
theorem entry_block (c : Dev nD) (t : Fin cfg0.N) (k : Fin 768) :
    Mask.entry (fun j => iblk m c 0 t (ix3 0 0 j : S1x1x768.Idx)) (iblk m c 1 t (ix3 0 0 0 : S1x1x1.Idx)) k
      = entryAt m c (sample t) k := by
  unfold entryAt
  exact congrArg₂ (fun s r => Mask.entry s r k) (funext fun j => block0 m c t j) (block1 m c t)

/-- Point `t` writes its block of the image array. -/
theorem flushed3 (c : Dev nD) (t : Fin cfg0.N) :
    (dats m 0 c).flushed 3 t = (win0_3.blk t).view.read (Elt Ideal) (imageOut m c) := by
  show (cfg0.win 3).cut (grid0.coords t) ((dats m 0 c).after 3 t) = _
  rw [after0_3]
  unfold out0_3
  rw [View.canon_unit_zero hz, View.ld_unit_zero hz, View.ld_unit_zero hz, View.ld_unit_zero hz]
  funext y
  have hy : ∃ (k : Fin 768) (p : Fin 576), y = (ix3 0 k p : S1x768x576.Idx) := by
    refine ⟨y 1, y 2, ?_⟩
    funext a
    match a with
    | ⟨0, _⟩ => exact Subsingleton.elim (α := Fin 1) _ _
    | ⟨1, _⟩ => rfl
    | ⟨2, _⟩ => rfl
  obtain ⟨k, p, rfl⟩ := hy
  refine (pay3_at _ _ _ k p).trans ?_
  rw [entry_block]
  refine (congrArg (fun z : EReal => z * entryAt m c (sample t) k) (block2 m c t k p)).trans ?_
  exact (congrArg (imageOut m c) (emb3 t k p)).symm

/-- Point `t` writes its block of the mask array. -/
theorem flushed4 (c : Dev nD) (t : Fin cfg0.N) :
    (dats m 0 c).flushed 4 t = (win0_4.blk t).view.read (Elt Ideal) (maskOut m c) := by
  show (cfg0.win 4).cut (grid0.coords t) ((dats m 0 c).after 4 t) = _
  rw [after0_4]
  unfold out0_4
  rw [View.canon_unit_zero hz, View.ld_unit_zero hz, View.ld_unit_zero hz]
  funext y
  have hy : ∃ (k : Fin 768), y = (ix3 0 0 k : S1x1x768.Idx) := by
    refine ⟨y 2, ?_⟩
    funext a
    match a with
    | ⟨0, _⟩ => exact Subsingleton.elim (α := Fin 1) _ _
    | ⟨1, _⟩ => exact Subsingleton.elim (α := Fin 1) _ _
    | ⟨2, _⟩ => rfl
  obtain ⟨k, rfl⟩ := hy
  refine (pay2_at _ _ k).trans ?_
  rw [entry_block]
  exact (congrArg (maskOut m c) (emb4 t k)).symm

/-- The grid point of a sample. -/
def point (b : Fin 32) : Fin cfg0.N := ⟨b.val, by have : cfg0.N = 32 := N_0; have := b.isLt; omega⟩

/-- The blocks of the images fill the image array. -/
theorem cover3 (i : S32x768x576.Idx) :
    ∃ t : Fin cfg0.N, (cfg0.win 3).flush t = true ∧ i ∈ ((cfg0.win 3).blk t).view.set := by
  refine ⟨point (i 0), flush0_3 _, ?_⟩
  show i ∈ ((View.whole main_v8_0).slice (win0_3.rect (point (i 0)))).set
  rw [View.set_slice_whole]
  have e : (win0_3.rect (point (i 0))).emb (ix3 0 (i 1) (i 2) : S1x768x576.Idx) = i := by
    refine (emb3 (point (i 0)) (i 1) (i 2)).trans ?_
    funext a
    match a with
    | ⟨0, _⟩ => rfl
    | ⟨1, _⟩ => rfl
    | ⟨2, _⟩ => rfl
  exact (congrArg (· ∈ _) e).mp (LoadRect.idx_mem _ _)

/-- The blocks of the mask fill the mask array. -/
theorem cover4 (i : S32x1x768.Idx) :
    ∃ t : Fin cfg0.N, (cfg0.win 4).flush t = true ∧ i ∈ ((cfg0.win 4).blk t).view.set := by
  refine ⟨point (i 0), flush0_4 _, ?_⟩
  show i ∈ ((View.whole main_v8_1).slice (win0_4.rect (point (i 0)))).set
  rw [View.set_slice_whole]
  have e : (win0_4.rect (point (i 0))).emb (ix3 0 0 (i 2) : S1x1x768.Idx) = i := by
    refine (emb4 (point (i 0)) (i 2)).trans ?_
    funext a
    match a with
    | ⟨0, _⟩ => rfl
    | ⟨1, _⟩ => exact Subsingleton.elim (α := Fin 1) _ _
    | ⟨2, _⟩ => rfl
  exact (congrArg (· ∈ _) e).mp (LoadRect.idx_mem _ _)

/-- THE IMAGE ARRAY: it ends holding each channel's line times the channel's mask entry. -/
theorem final3 (c : Dev nD) : (dats m 0 c).arrAt 3 cfg0.N = imageOut m c :=
  (dats m 0 c).arrAt_eq_of_cover 3 (imageOut m c) (fun t _ => flushed3 m c t) cover3

/-- THE MASK ARRAY: it ends holding the mask entries. -/
theorem final4 (c : Dev nD) : (dats m 0 c).arrAt 4 cfg0.N = maskOut m c :=
  (dats m 0 c).arrAt_eq_of_cover 4 (maskOut m c) (fun t _ => flushed4 m c t) cover4

end Cert.KernelValue
-- ==== Proof.KernelRun.lean ====
/-
  The kernel program's run, read at its five results.

  Before the grid the program flattens each image, gives the scores and the rates unit axes, and computes the numbers of
  active channels; after it the program gives the image array its two image axes back, drops the mask's unit axis, and
  copies the mask with two unit axes. Here every one of these arrays is stated over the program's arguments.
-/
module

public import proofs.«01_k».proof.Proof.Arrays

@[expose] public section

set_option maxRecDepth 16384

noncomputable section

namespace Cert.KernelValue

open Idealize.ShloMosaic Idealize.ShloMosaic.TcCoe Idealize.SL.Sem
open Idealize.ShloMosaic.StableHlo
open Cert.KernelIdeal Cert.KernelIdeal.Gen

variable (m : (ℓ : Loc nD τ sig) → Buf (Elt Ideal) ℓ) (ρ : Dev nD → PrngReg)

/-- The images given to device `c`. -/
abbrev argX (c : Dev nD) : FVec Ideal S32x768x24x24 .f32 := m ((c.tc : Thread nD τ).loc main_arg0)
/-- The scores given to device `c`. -/
abbrev argS (c : Dev nD) : FVec Ideal S32x768 .f32 := m ((c.tc : Thread nD τ).loc main_arg1)
/-- The rates given to device `c`. -/
abbrev argR (c : Dev nD) : FVec Ideal S32 .f32 := m ((c.tc : Thread nD τ).loc main_arg2)

/-- The program's numbers of active channels, from the rates. -/
def actives (r : FVec Ideal S32 .f32) : IVec S32 32 :=
  minsi (broadcastInDim S32 ![] bcast_S_S32 (id (constantI S_ 32 768#32)))
    (maxsi (broadcastInDim S32 ![] bcast_S_S32 (id (constantI S_ 32 1#32)))
      (fptosi 32 (Host.roundeven (mulf r (broadcastInDim S32 ![] bcast_S_S32 (constant S_ .f32 0x44400000#32))))))

/-- The images the grid finds are the argument's, flattened. -/
theorem images_eq (c : Dev nD) : images m c = shapeCast S32x768x576 (argX m c) shapeCasts_S32x768x24x24_S32x768x576 := by
  show V0 m c (Proc.devRef .tc main_v5) = _
  unfold V0
  simp only [hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results
  rfl
/-- The scores the grid finds are the argument's with a unit axis. -/
theorem scores_eq (c : Dev nD) : scores m c = shapeCast S32x1x768 (argS m c) shapeCasts_S32x768_S32x1x768 := by
  show V0 m c (Proc.devRef .tc main_v6) = _
  unfold V0
  simp only [hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results
  rfl
/-- The rates the grid finds are the argument's with two unit axes. -/
theorem rates_eq (c : Dev nD) : rates m c = shapeCast S32x1x1 (argR m c) shapeCasts_S32_S32x1x1 := by
  show V0 m c (Proc.devRef .tc main_v7) = _
  unfold V0
  simp only [hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results
  rfl

/-- The numbers of active channels the program has computed when the grid starts. -/
theorem actives_eq (c : Dev nD) : V m c main_v4 = actives (argR m c) := by
  show V0 m c (Proc.devRef .tc main_v4) = _
  unfold V0
  simp only [hostOps0, hostOps0_1, hostOps0_2, hostOps0_3, hostOps0_4, List.flatten_cons, List.flatten_nil,
    List.append_nil, List.cons_append, List.nil_append, TRef.binary, TRef.nullary, TRef.unary, TRef.toBuf, TRef.ofBuf,
    cast_eq]
  after_results
  rfl

/-- The masked images: the image array with its two image axes back. -/
def resultX (c : Dev nD) : FVec Ideal S32x768x24x24 .f32 :=
  shapeCast S32x768x24x24 (imageOut m c) shapeCasts_S32x768x576_S32x768x24x24
/-- The mask: the mask array without its unit axis. -/
def resultM (c : Dev nD) : FVec Ideal S32x768 .f32 := shapeCast S32x768 (maskOut m c) shapeCasts_S32x1x768_S32x768
/-- The spatial mask: the mask with two unit axes. -/
def resultS (c : Dev nD) : FVec Ideal S32x768x1x1 .f32 :=
  broadcastInDim S32x768x1x1 ![0, 1] bcast_S32x768_S32x768x1x1_0_1 (resultM m c)

/-- The contents of the buffers when the grid has run. -/
abbrev entered (c : Dev nD) : Valuation τ sig (Elt Ideal) :=
  Pipeline.withArrays (cfgs 0).spec c (V0 m c) fun w => (dats m 0 c).arrAt w (cfgs 0).N

/-- The image array's buffer then holds the masked images, flattened. -/
theorem entered3 (c : Dev nD) : entered m c (Proc.devRef .tc main_v8_0) = imageOut m c :=
  (Pipeline.withArrays_arr _ launch0.win.arr_inj c (V0 m c) _ 3).trans (final3 m c)
/-- The mask array's buffer then holds the mask, with its unit axis. -/
theorem entered4 (c : Dev nD) : entered m c (Proc.devRef .tc main_v8_1) = maskOut m c :=
  (Pipeline.withArrays_arr _ launch0.win.arr_inj c (V0 m c) _ 4).trans (final4 m c)

/-- After the last host operations the first result's buffer holds the masked images. -/
theorem tailX (c : Dev nD) : Pipeline.afterTail₀ cfgs (dats m) 0 (V0 m) [hostOps1] c main_v9 = resultX m c := by
  unfold Pipeline.afterTail₀
  show StableHlo.after (List.flatten [hostOps1]) (entered m c) (Proc.devRef .tc main_v9) = _
  simp only [hostOps1, List.flatten_cons, List.flatten_nil, List.append_nil]
  after_results
  rw [entered3]
  rfl
/-- After the last host operations the second result's buffer holds the mask. -/
theorem tailM (c : Dev nD) : Pipeline.afterTail₀ cfgs (dats m) 0 (V0 m) [hostOps1] c main_v10 = resultM m c := by
  unfold Pipeline.afterTail₀
  show StableHlo.after (List.flatten [hostOps1]) (entered m c) (Proc.devRef .tc main_v10) = _
  simp only [hostOps1, List.flatten_cons, List.flatten_nil, List.append_nil]
  after_results
  rw [entered4]
  rfl
/-- After the last host operations the third result's buffer holds the spatial mask. -/
theorem tailS (c : Dev nD) : Pipeline.afterTail₀ cfgs (dats m) 0 (V0 m) [hostOps1] c main_v11 = resultS m c := by
  unfold Pipeline.afterTail₀
  show StableHlo.after (List.flatten [hostOps1]) (entered m c) (Proc.devRef .tc main_v11) = _
  simp only [hostOps1, List.flatten_cons, List.flatten_nil, List.append_nil]
  after_results
  rw [entered4]
  rfl
/-- After the last host operations the numbers of active channels are as they were when the grid started. -/
theorem tailA (c : Dev nD) : Pipeline.afterTail₀ cfgs (dats m) 0 (V0 m) [hostOps1] c main_v4 = actives (argR m c) := by
  unfold Pipeline.afterTail₀
  show StableHlo.after (List.flatten [hostOps1]) (entered m c) (Proc.devRef .tc main_v4) = _
  simp only [hostOps1, List.flatten_cons, List.flatten_nil, List.append_nil]
  after_results
  exact (Pipeline.withArrays_of_ne _ c (V0 m c) _ main_v4
    (by exact (by decide : ∀ w, Pipeline.arrRef spec0 w ≠ main_v4))).trans (actives_eq m c)

/-- THE RUN: every execution ends with the five results as stated and the arguments unchanged. -/
theorem run : θ_run defs (onTc (τ := τ) (main (F := Ideal))) ⟨m, fun _ => 0, ρ⟩ fun r => ∀ c : Dev nD,
      r.2.mem ((c.tc : Thread nD τ).loc main_v9) = resultX m c
      ∧ r.2.mem ((c.tc : Thread nD τ).loc main_v10) = resultM m c
      ∧ r.2.mem ((c.tc : Thread nD τ).loc main_v11) = resultS m c
      ∧ r.2.mem ((c.tc : Thread nD τ).loc main_v4) = actives (argR m c)
      ∧ r.2.mem ((c.tc : Thread nD τ).loc main_arg2) = argR m c
      ∧ r.2.mem ((c.tc : Thread nD τ).loc main_arg0) = argX m c
      ∧ r.2.mem ((c.tc : Thread nD τ).loc main_arg1) = argS m c
      ∧ r.2.mem ((c.tc : Thread nD τ).loc main_arg2) = argR m c := by
  refine (θ_run defs _ _).mono (fun _ h c => ?_) (run_main m ρ)
  have hr := fun b hu hw => (h c).2 b (Pipeline.mem_restRefs_of b hu hw)
  have h2 := (hr main_arg2 (by decide) (by decide)).trans (W_main_arg2 m (dats m) c)
  exact ⟨(hr main_v9 (by decide) (by decide)).trans (tailX m c),
    (hr main_v10 (by decide) (by decide)).trans (tailM m c),
    (hr main_v11 (by decide) (by decide)).trans (tailS m c),
    (hr main_v4 (by decide) (by decide)).trans (tailA m c), h2,
    (hr main_arg0 (by decide) (by decide)).trans (W_main_arg0 m (dats m) c),
    (hr main_arg1 (by decide) (by decide)).trans (W_main_arg1 m (dats m) c), h2⟩

/-- The mask at an index, over the arguments. -/
theorem resultM_at (c : Dev nD) (b : Fin 32) (k : Fin 768) :
    resultM m c (ix2 b k) = Mask.entry (fun j => argS m c (ix2 b j)) (argR m c (ix1 b)) k := by
  have e : resultM m c (ix2 b k) = entryAt m c b k := by
    pointwise [resultM, maskOut]
  rw [e]
  unfold entryAt
  rw [scores_eq, rates_eq]
  refine congrArg₂ (fun s r => Mask.entry s r k) (funext fun j => ?_) ?_
  · pointwise
  · pointwise

/-- The masked image at an index: the argument there times the mask there. -/
theorem resultX_at (c : Dev nD) (b : Fin 32) (k : Fin 768) (p q : Fin 24) :
    resultX m c (ix4 b k p q) = argX m c (ix4 b k p q) * resultM m c (ix2 b k) := by
  have e : resultX m c (ix4 b k p q) = images m c (ix3 b k ⟨p.val * 24 + q.val, by omega⟩) * entryAt m c b k := by
    pointwise [resultX, imageOut]
  have e' : resultM m c (ix2 b k) = entryAt m c b k := by
    pointwise [resultM, maskOut]
  rw [e, e', images_eq]
  refine congrArg (fun z : EReal => z * entryAt m c b k) ?_
  pointwise

end Cert.KernelValue
-- ==== Proof.Active.lean ====
/-
  The number of active channels: one comparison in floats against one in words.

  The kernel compares a channel's rank, a float, with `min(768, max(1, round(rate · 768)))`, a float. The reference
  converts the rounded product to a 32-bit word first, clips that word to `[1, 768]` and compares words. For a rank
  below 768 the two comparisons agree at every rate, the infinities included: the conversion clamps to the words'
  range, and the clip to `[1, 768]` hides the clamping.
-/
module

public import Idealize.ShloMosaic.Lib.Pointwise
public import Idealize.ShloMosaic.Lib.WordCmp

@[expose] public section

namespace Cert.Active

open Idealize.ShloMosaic

/-- The f32 word `0x44400000` denotes 768. -/
theorem ofBits_768 : Ideal.ofBits .f32 0x44400000#32 = ((768 : ℝ) : EReal) := by
  simp [Ideal.ofBits, Ideal.ieee, -EReal.coe_mul]; norm_num

/-- The clipped word's value: the clip, in integers, of what was converted. -/
theorem toInt_clip (v : BitVec 32) :
    (IntOp.minsi 768#32 (IntOp.maxsi 1#32 v)).toInt = min 768 (max 1 v.toInt) := by
  have h1 : (1#32).toInt = 1 := by decide
  have h2 : (768#32).toInt = 768 := by decide
  unfold IntOp.minsi IntOp.maxsi
  simp only [BitVec.slt, decide_eq_true_eq, h1]
  split <;> split <;> simp only [h1, h2] at * <;> omega

/-- The converted word's value is the clamped integer. -/
theorem toInt_fptosi (x : EReal) :
    (Ideal.fptosi 32 x).toInt = Ideal.toIntClamped (-2147483648) 2147483647 x := by
  have hb : -2147483648 ≤ Ideal.toIntClamped (-2147483648) 2147483647 x
      ∧ Ideal.toIntClamped (-2147483648) 2147483647 x ≤ 2147483647 := by
    induction x using EReal.rec with
    | bot => simp
    | top => simp
    | coe r => simp only [Ideal.toIntClamped_coe]; omega
  show (BitVec.ofInt 32 (Ideal.toIntClamped (-((2 ^ 31 : Nat) : Int)) (((2 ^ 31 : Nat) : Int) - 1) x)).toInt = _
  have e : Ideal.toIntClamped (-((2 ^ 31 : Nat) : Int)) (((2 ^ 31 : Nat) : Int) - 1) x
      = Ideal.toIntClamped (-2147483648) 2147483647 x := by norm_num
  rw [e, BitVec.toInt_ofInt]
  exact Int.bmod_eq_of_le (by norm_num; exact hb.1) (by norm_num; omega)

/-- A rounded number converts to itself, clamped. -/
theorem clamp_int (lo hi k : Int) : Ideal.toIntClamped lo hi (((k : ℝ)) : EReal) = max lo (min hi k) := by
  rw [Ideal.toIntClamped_coe]
  split <;> simp

/-- THE COMPARISON: a rank below 768 is below the float clip of the rounded number exactly if its word is below the
    word clip of the converted rounded number. -/
theorem lt_clip_iff (y : EReal) (n : Nat) (hn : n < 768) :
    ((n : ℝ) : EReal) < min (Ideal.ofBits .f32 0x44400000#32)
        (max (Ideal.ofBits .f32 0x3F800000#32) (Ideal.liftRound Ideal.roundHalfEven y))
      ↔ (BitVec.ofNat 32 n).slt (IntOp.minsi 768#32 (IntOp.maxsi 1#32
          (Ideal.fptosi 32 (Ideal.liftRound Ideal.roundHalfEven y)))) = true := by
  have hn' : (BitVec.ofNat 32 n).toInt = n := by
    rw [BitVec.toInt_ofNat']; exact Int.bmod_eq_of_le (by omega) (by omega)
  have hc : ((n : ℝ) : EReal) < ((768 : ℝ) : EReal) := by
    rw [EReal.coe_lt_coe_iff]; exact_mod_cast hn
  have h1 : ((n : ℝ) : EReal) < 1 ↔ (n : Int) < 1 := by
    rw [← EReal.coe_one, EReal.coe_lt_coe_iff]; norm_cast
  rw [BitVec.slt, decide_eq_true_iff, hn', toInt_clip, toInt_fptosi, ofBits_768, Ideal.ofBits_one_f32, lt_min_iff,
    lt_max_iff, h1]
  simp only [hc, true_and]
  induction y using EReal.rec with
  | bot => simp only [Ideal.liftRound_bot, Ideal.toIntClamped_bot, not_lt_bot, or_false]; omega
  | top =>
    simp only [Ideal.liftRound_top, Ideal.toIntClamped_top, EReal.coe_lt_top, or_true, true_iff]; omega
  | coe r =>
    rw [Ideal.liftRound_coe, clamp_int, EReal.coe_lt_coe_iff]
    have h2 : ((n : ℝ) < ((Ideal.roundHalfEven r : ℤ) : ℝ)) ↔ (n : Int) < Ideal.roundHalfEven r := by norm_cast
    rw [h2]
    generalize Ideal.roundHalfEven r = k
    omega

end Cert.Active
-- ==== Proof.RefMask.lean ====
/-
  What the reference's mask holds at an index.

  The reference sorts each row's negated scores together with the positions, sorts the resulting positions together with
  the positions again, and compares the outcome, word by word, with the row's number of active channels. The first
  sort's second component lists the positions from the largest score down; the second sort's second component holds the
  ranks. Read at an index, the mask is the entry that `Cert.Mask.entry` names.
-/
module

public import Idealize.ShloMosaic.Lib.Pointwise
public import Idealize.ShloMosaic.Lib.WordCmp
public import proofs.«01_k».proof.Proof.Gen.ReferenceIdeal.Run
public import proofs.«01_k».proof.Proof.Mask
public import proofs.«01_k».proof.Proof.Active

@[expose] public section

set_option maxRecDepth 16384

noncomputable section

namespace Cert.ReferenceValue

open Idealize.ShloMosaic Idealize.ShloMosaic.TcCoe Idealize.ShloMosaic.WordCmp Idealize.SL.Sem
open Cert.ReferenceIdeal Cert.ReferenceIdeal.Gen

/-- The second component of a two-operand sort along the rows, read at row `b` and column `c`: the payload at the
    column the sort of that row lists at place `c`. -/
theorem sort2_snd_at {α β : Type} (cmp : α × β → α × β → BitVec 1) (x : S32x768.Idx → α) (y : S32x768.Idx → β)
    (b : Fin 32) (c : Fin 768) :
    (Host.sort2 S32x768 1 cmp x y).2 (ix2 b c)
      = y (ix2 b (sortedFrom (fun k k' : Fin 768 =>
          cmp (x (ix2 b k), y (ix2 b k)) (x (ix2 b k'), y (ix2 b k')) == 1#1) c)) := by
  have e : ∀ k : Fin 768, Shape.Idx.along (s := S32x768) (ix2 b c) (1 : Fin 2) k = ix2 b k := by
    intro k
    funext a
    match a with
    | ⟨0, _⟩ => rfl
    | ⟨1, _⟩ => rfl
  unfold Host.sort2
  rw [dif_pos (show 1 < S32x768.rank by decide)]
  refine (congrArg y (e _)).trans ?_
  refine congrArg (fun R : Fin 768 → Fin 768 → Bool => y (ix2 b (sortedFrom R c))) ?_
  funext k k'
  exact congrArg₂ (fun i i' => cmp (x i, y i) (x i', y i') == 1#1) (e k) (e k')

/-- The first sort reads a key as itself: at exact values a key is no NaN, and a zero is zero. -/
theorem key_eq (z : Ideal .f32) :
    Scalar.select (FloatOps.cmpf .une z z) (FloatOps.ofBits .f32 0x7FC00000#32 : Ideal .f32)
      (Scalar.select (FloatOps.cmpf .oeq z (FloatOps.ofBits .f32 0x00000000#32 : Ideal .f32))
        (FloatOps.ofBits .f32 0x00000000#32 : Ideal .f32) z) = z := by
  have h0 : (FloatOps.ofBits .f32 0x00000000#32 : Ideal .f32) = (0 : EReal) := Ideal.ofBits_zero_f32
  have h1 : FloatOps.cmpf .une z z = 0#1 := by
    show BitVec.ofBool (decide ((z : EReal) ≠ z)) = 0#1
    rw [decide_eq_false (not_not.mpr rfl)]; rfl
  rw [h1, select_of_eq_zero rfl, h0]
  by_cases h : (z : EReal) = 0
  · unfold Scalar.select
    split
    · exact h.symm
    · rfl
  · have h2 : FloatOps.cmpf .oeq z ((0 : EReal) : Ideal .f32) = 0#1 := by
      show BitVec.ofBool (decide ((z : EReal) = 0)) = 0#1
      rw [decide_eq_false h]; rfl
    rw [h2, select_of_eq_zero rfl]

/-- The first sort's comparison is the order of the two keys. -/
theorem first_cmp (l r : Ideal .f32 × BitVec 32) :
    (comparator_f32_i32_d1 l r == 1#1) = true ↔ (l.1 : EReal) < r.1 := by
  unfold comparator_f32_i32_d1
  dsimp only
  rw [key_eq, key_eq]
  show (BitVec.ofBool (decide ((l.1 : EReal) < r.1)) == 1#1) = true ↔ _
  by_cases h : (l.1 : EReal) < r.1
  · simp only [h, decide_true]; decide
  · simp only [h, decide_false]; decide

/-- The second sort's comparison, of positions as words, is the order of the positions. -/
theorem second_cmp (i j : Fin 768) (u v : BitVec 32) :
    (comparator_i32_i32_d1 (BitVec.ofNat 32 i.val, u) (BitVec.ofNat 32 j.val, v) == 1#1) = true ↔ i < j := by
  unfold comparator_i32_i32_d1
  dsimp only
  rw [beq_iff_eq]
  exact cmpi_slt_ofNat_eq_one_iff (by omega) (by omega)

/-- The positions of row `b`, sorted by the negated scores. -/
def listing (s : FVec Ideal S32x768 .f32) (b : Fin 32) : Fin 768 → Fin 768 :=
  sortedFrom fun k k' : Fin 768 => comparator_f32_i32_d1 (F := Ideal)
    (Host.negf s (ix2 b k), iotaInDim S32x768 32 1 (ix2 b k))
    (Host.negf s (ix2 b k'), iotaInDim S32x768 32 1 (ix2 b k')) == 1#1

/-- The reference's ranks: the second component of the second sort. -/
def ranks (s : FVec Ideal S32x768 .f32) : IVec S32x768 32 :=
  (Host.sort2 S32x768 1 comparator_i32_i32_d1
    ((Host.sort2 S32x768 1 (comparator_f32_i32_d1 (F := Ideal)) (Host.negf s) (iotaInDim S32x768 32 1)).2)
    (iotaInDim S32x768 32 1)).2

/-- THE RANKS: at row `b` and channel `c` the reference holds the word of the channel's rank. -/
theorem ranks_at (s : FVec Ideal S32x768 .f32) (b : Fin 32) (c : Fin 768) :
    ranks s (ix2 b c) = BitVec.ofNat 32 (Mask.rank (fun j => s (ix2 b j)) c) := by
  have h1 : ∀ k : Fin 768, (Host.sort2 S32x768 1 (comparator_f32_i32_d1 (F := Ideal)) (Host.negf s)
      (iotaInDim S32x768 32 1)).2 (ix2 b k) = BitVec.ofNat 32 (listing s b k).val := fun k =>
    sort2_snd_at _ _ _ b k
  unfold ranks
  rw [sort2_snd_at]
  refine congrArg (BitVec.ofNat 32) ?_
  refine Ranks.rank_eq_card (fun j => -(s (ix2 b j))) (fun k k' : Fin 768 => comparator_f32_i32_d1 (F := Ideal)
      (Host.negf s (ix2 b k), iotaInDim S32x768 32 1 (ix2 b k))
      (Host.negf s (ix2 b k'), iotaInDim S32x768 32 1 (ix2 b k')) == 1#1)
    (fun i j => first_cmp (Host.negf s (ix2 b i), _) (Host.negf s (ix2 b j), _)) _ (fun i j => ?_) c
  rw [h1, h1]
  exact second_cmp _ _ _ _

/-- The reference's numbers of active channels, one word per row. -/
def actives (r : FVec Ideal S32 .f32) : IVec S32 32 :=
  minsi (broadcastInDim S32 ![] bcast_S_S32 (id (constantI S_ 32 768#32)))
    (maxsi (broadcastInDim S32 ![] bcast_S_S32 (id (constantI S_ 32 1#32)))
      (fptosi 32 (Host.roundeven (mulf r (broadcastInDim S32 ![] bcast_S_S32 (constant S_ .f32 0x44400000#32))))))

/-- The word of row `b`: the product with 768, rounded, converted, and clipped to `[1, 768]`. -/
theorem actives_at (r : FVec Ideal S32 .f32) (b : Fin 32) :
    actives r (ix1 b) = IntOp.minsi 768#32 (IntOp.maxsi 1#32
      (Ideal.fptosi 32 (Ideal.liftRound Ideal.roundHalfEven (r (ix1 b) * Ideal.ofBits .f32 0x44400000#32)))) := rfl

/-- The reference's mask. -/
def mask (s : FVec Ideal S32x768 .f32) (r : FVec Ideal S32 .f32) : FVec Ideal S32x768 .f32 :=
  uitofp .f32 (cmpi .slt (ranks s) (broadcastInDim S32x768 ![0, 1] bcast_S32x1_S32x768_0_1
    (broadcastInDim S32x1 ![0] bcast_S32_S32x1_0 (actives r))))

/-- THE MASK: at row `b` and channel `c` the reference holds the mask entry. -/
theorem mask_at (s : FVec Ideal S32x768 .f32) (r : FVec Ideal S32 .f32) (b : Fin 32) (c : Fin 768) :
    mask s r (ix2 b c) = Mask.entry (fun j => s (ix2 b j)) (r (ix1 b)) c := by
  have e : mask s r (ix2 b c)
      = FloatOps.uitofp .f32 (IntOp.cmpi .slt (ranks s (ix2 b c)) (actives r (ix1 b))) := by
    pointwise [mask]
  rw [e, ranks_at, actives_at]
  unfold Mask.entry Mask.active IntOp.cmpi
  have h := Active.lt_clip_iff (r (ix1 b) * Ideal.ofBits .f32 0x44400000#32) _ (Mask.rank_lt (fun j => s (ix2 b j)) c)
  dsimp only
  by_cases hk : (BitVec.ofNat 32 (Mask.rank (fun j => s (ix2 b j)) c)).slt (IntOp.minsi 768#32 (IntOp.maxsi 1#32
      (Ideal.fptosi 32 (Ideal.liftRound Ideal.roundHalfEven (r (ix1 b) * Ideal.ofBits .f32 0x44400000#32))))) = true
  · rw [if_pos (h.mpr hk), hk]
    simp [FloatOps.uitofp]
  · rw [if_neg (fun h' => hk (h.mp h')), Bool.eq_false_iff.mpr hk]
    simp [FloatOps.uitofp]

end Cert.ReferenceValue
-- ==== Proof.RefRun.lean ====
/-
  The reference program's run, read at its five results.

  The reference multiplies each image by the mask spread over the two image axes. The results are named by the functions
  of the arguments that the module on the reference's mask defines.
-/
module

public import proofs.«01_k».proof.Proof.RefMask

@[expose] public section

set_option maxRecDepth 16384

noncomputable section

namespace Cert.ReferenceValue

open Idealize.ShloMosaic Idealize.ShloMosaic.TcCoe Idealize.SL.Sem
open Cert.ReferenceIdeal Cert.ReferenceIdeal.Gen

/-- The spatial mask: the mask with two unit axes. -/
def spatial (s : FVec Ideal S32x768 .f32) (r : FVec Ideal S32 .f32) : FVec Ideal S32x768x1x1 .f32 :=
  broadcastInDim S32x768x1x1 ![0, 1] bcast_S32x768_S32x768x1x1_0_1 (mask s r)

/-- The masked images: the images times the spatial mask spread over the image axes. -/
def masked (x : FVec Ideal S32x768x24x24 .f32) (s : FVec Ideal S32x768 .f32) (r : FVec Ideal S32 .f32) :
    FVec Ideal S32x768x24x24 .f32 :=
  mulf x (broadcastInDim S32x768x24x24 ![0, 1, 2, 3] bcast_S32x768x1x1_S32x768x24x24_0_1_2_3 (spatial s r))

/-- A masked image at an index: the image there times the mask entry of its sample and channel. -/
theorem masked_at (x : FVec Ideal S32x768x24x24 .f32) (s : FVec Ideal S32x768 .f32) (r : FVec Ideal S32 .f32)
    (b : Fin 32) (k : Fin 768) (p q : Fin 24) :
    masked x s r (ix4 b k p q) = x (ix4 b k p q) * mask s r (ix2 b k) := by
  pointwise [masked, spatial]

/-- THE RUN: every execution ends with the five results as named and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = masked (m ((c.tc : Thread nD τ).loc main_arg0))
        (m ((c.tc : Thread nD τ).loc main_arg1)) (m ((c.tc : Thread nD τ).loc main_arg2))
      ∧ r.2.mem ((c.tc : Thread nD τ).loc main_v11) = mask (m ((c.tc : Thread nD τ).loc main_arg1))
        (m ((c.tc : Thread nD τ).loc main_arg2))
      ∧ r.2.mem ((c.tc : Thread nD τ).loc main_v12) = spatial (m ((c.tc : Thread nD τ).loc main_arg1))
        (m ((c.tc : Thread nD τ).loc main_arg2))
      ∧ r.2.mem ((c.tc : Thread nD τ).loc main_v4) = actives (m ((c.tc : Thread nD τ).loc main_arg2))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceValue
-- ==== Proof.Equation.lean ====
/-
  The kernel's results are the reference's.

  Both programs' masks hold the same entry at every sample and channel: the kernel counts the channels that come before
  one, the reference sorts twice and reads the place. The masked images and the spatial mask follow, and the numbers of
  active channels are computed by the same words.
-/
module

public import proofs.«01_k».proof.Proof.KernelRun
public import proofs.«01_k».proof.Proof.RefRun

@[expose] public section

set_option maxRecDepth 16384

noncomputable section

namespace Cert.Equation

open Idealize.ShloMosaic Idealize.SL.Sem
open Cert.KernelIdeal Cert.KernelValue

variable (m : (ℓ : Loc nD τ sig) → Buf (Elt Ideal) ℓ)

/-- Result 2: the masks are equal. -/
theorem mask_eq (c : Dev nD) : resultM m c = ReferenceValue.mask (argS m c) (argR m c) := by
  funext i
  have hi : i = (ix2 (i 0) (i 1) : S32x768.Idx) := eq_ix2 i
  rw [hi]
  exact (resultM_at m c (i 0) (i 1)).trans (ReferenceValue.mask_at (argS m c) (argR m c) (i 0) (i 1)).symm

/-- Result 1: the masked images are equal. -/
theorem masked_eq (c : Dev nD) : resultX m c = ReferenceValue.masked (argX m c) (argS m c) (argR m c) := by
  funext i
  have hi : i = (ix4 (i 0) (i 1) (i 2) (i 3) : S32x768x24x24.Idx) := eq_ix4 i
  rw [hi]
  refine (resultX_at m c (i 0) (i 1) (i 2) (i 3)).trans (Eq.trans ?_
    (ReferenceValue.masked_at (argX m c) (argS m c) (argR m c) (i 0) (i 1) (i 2) (i 3)).symm)
  rw [mask_eq]

/-- Result 3: the spatial masks are equal. -/
theorem spatial_eq (c : Dev nD) : resultS m c = ReferenceValue.spatial (argS m c) (argR m c) := by
  unfold resultS
  rw [mask_eq]
  rfl

/-- Result 4: the numbers of active channels are equal. -/
theorem actives_eq (c : Dev nD) : actives (argR m c) = ReferenceValue.actives (argR m c) := rfl

end Cert.Equation
-- ==== Proof.lean ====
/-
  The five claims. Each program ends at every execution, its arguments as they were and its semaphores at zero; the
  idealised kernel is the kernel's own text; and at exact values the kernel's five results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends, with its arguments unchanged and its semaphores at zero. -/
theorem frame_kernel : Cert.quiescent_Kernel := fun m ρ _ => Cert.Kernel.Gen.frame m ρ

/-- The idealised kernel ends, with its arguments unchanged and its semaphores at zero. -/
theorem frame_ideal : Cert.quiescent_KernelIdeal := fun m ρ _ => Cert.KernelIdeal.Gen.frame m ρ

/-- The reference ends, with its arguments unchanged; it has no semaphore. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceValue.run m ρ)

/-- No operation was replaced between the kernel and the idealised kernel. -/
theorem preserves : Cert.preserves_Kernel_KernelIdeal := trivial

/-- THE VALUE: from equal arguments both programs end with the same masked images, mask, spatial mask, numbers of active
    channels and rates, at every input. -/
theorem algebraic : Cert.algebraic_KernelIdeal_ReferenceIdeal := by
  intro m g m' g' _ agree
  refine ⟨fun c => Cert.KernelValue.resultX m c, fun c => Cert.KernelValue.resultM m c,
    fun c => Cert.KernelValue.resultS m c, fun c => Cert.KernelValue.actives (Cert.KernelValue.argR m c),
    fun c => Cert.KernelValue.argR m c, Cert.KernelValue.run m g, ?_⟩
  refine (θ_run Cert.ReferenceIdeal.defs _ _).mono (fun _ h c => ?_) (Cert.ReferenceValue.run m' g')
  obtain ⟨a0, a1, a2⟩ := agree c
  obtain ⟨h0, h1, h2, h3, h4, hargs⟩ := h c
  rw [a0, a1, a2] at h0
  rw [a1, a2] at h1 h2
  rw [a2] at h3 h4
  exact ⟨h0.trans (Cert.Equation.masked_eq m c).symm, h1.trans (Cert.Equation.mask_eq m c).symm,
    h2.trans (Cert.Equation.spatial_eq m c).symm, h3.trans (Cert.Equation.actives_eq m c).symm, h4, hargs⟩

/-- The certificate. -/
theorem claim : Cert.Claim := ⟨Cert.Kernel.Gen.facts, Cert.KernelIdeal.Gen.facts, Cert.ReferenceIdeal.Gen.facts,
  frame_kernel, frame_ideal, frame_reference, preserves, algebraic⟩

end Cert.Proof

end
